-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x4096 : Shape := ⟨3, ![4, 8192, 4096]⟩
abbrev S4096x64 : Shape := ⟨2, ![4096, 64]⟩
abbrev S64 : Shape := ⟨1, ![64]⟩
abbrev S_ : Shape := ⟨0, ![]⟩
abbrev S64x4096 : Shape := ⟨2, ![64, 4096]⟩
abbrev S1x64 : Shape := ⟨2, ![1, 64]⟩
abbrev S4x64x8192 : Shape := ⟨3, ![4, 64, 8192]⟩
abbrev S1x1 : Shape := ⟨2, ![1, 1]⟩
abbrev S1x1024x4096 : Shape := ⟨3, ![1, 1024, 4096]⟩
abbrev S1x64x1024 : Shape := ⟨3, ![1, 64, 1024]⟩
abbrev S1024x4096 : Shape := ⟨2, ![1024, 4096]⟩
abbrev S64x1024 : Shape := ⟨2, ![64, 1024]⟩
abbrev S64x1 : Shape := ⟨2, ![64, 1]⟩
abbrev S1024 : Shape := ⟨1, ![1024]⟩
abbrev S1x1024 : Shape := ⟨2, ![1, 1024]⟩
abbrev S1x1x1024 : Shape := ⟨3, ![1, 1, 1024]⟩
abbrev S1 : Shape := ⟨1, ![1]⟩
abbrev S1x1x1 : Shape := ⟨3, ![1, 1, 1]⟩
abbrev S4x8192x64 : Shape := ⟨3, ![4, 8192, 64]⟩

abbrev nBuf : Space → Nat
  | .hbm => 12
  | .vmem => 8
  | .smem => 1
  | _ => 0

abbrev bufTy : (tb : Table) → Fin (tcTables nBuf tb) → BufTy
  | .hbm, ⟨0, _⟩ => ⟨S4x8192x4096, .f32⟩
  | .hbm, ⟨1, _⟩ => ⟨S4096x64, .f32⟩
  | .hbm, ⟨2, _⟩ => ⟨S64, .f32⟩
  | .hbm, ⟨3, _⟩ => ⟨S_, .i32⟩
  | .hbm, ⟨4, _⟩ => ⟨S64x4096, .f32⟩
  | .hbm, ⟨5, _⟩ => ⟨S1x64, .f32⟩
  | .hbm, ⟨6, _⟩ => ⟨S4x64x8192, .f32⟩
  | .hbm, ⟨7, _⟩ => ⟨S4x64x8192, .f32⟩
  | .hbm, ⟨8, _⟩ => ⟨S1x1, .f32⟩
  | .hbm, ⟨9, _⟩ => ⟨S_, .f32⟩
  | .hbm, ⟨10, _⟩ => ⟨S4x8192x64, .f32⟩
  | .hbm, ⟨11, _⟩ => ⟨S4x8192x64, .f32⟩
  | .local _ .vmem, ⟨0, _⟩ => ⟨S1x1024x4096, .f32⟩
  | .local _ .vmem, ⟨1, _⟩ => ⟨S1x1024x4096, .f32⟩
  | .local _ .vmem, ⟨2, _⟩ => ⟨S64x4096, .f32⟩
  | .local _ .vmem, ⟨3, _⟩ => ⟨S1x64, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .smem, ⟨0, _⟩ => ⟨S1x1, .f32⟩
  | _, _ => ⟨S4x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4x8192x4096 : Shape := ⟨3, ![4, 8192, 4096]⟩
abbrev S4096x64 : Shape := ⟨2, ![4096, 64]⟩
abbrev S64 : Shape := ⟨1, ![64]⟩
abbrev S_ : Shape := ⟨0, ![]⟩
abbrev S4x8192x64 : Shape := ⟨3, ![4, 8192, 64]⟩
abbrev S1x1x64 : Shape := ⟨3, ![1, 1, 64]⟩
abbrev S4x8192 : Shape := ⟨2, ![4, 8192]⟩
abbrev S4x8192x1 : Shape := ⟨3, ![4, 8192, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x4096, .f32⟩
  | .hbm, ⟨1, _⟩ => ⟨S4096x64, .f32⟩
  | .hbm, ⟨2, _⟩ => ⟨S64, .f32⟩
  | .hbm, ⟨3, _⟩ => ⟨S_, .i32⟩
  | .hbm, ⟨4, _⟩ => ⟨S4x8192x64, .f32⟩
  | .hbm, ⟨5, _⟩ => ⟨S1x1x64, .f32⟩
  | .hbm, ⟨6, _⟩ => ⟨S4x8192x64, .f32⟩
  | .hbm, ⟨7, _⟩ => ⟨S4x8192x64, .f32⟩
  | .hbm, ⟨8, _⟩ => ⟨S_, .f32⟩
  | .hbm, ⟨9, _⟩ => ⟨S4x8192, .f32⟩
  | .hbm, ⟨10, _⟩ => ⟨S_, .f32⟩
  | .hbm, ⟨11, _⟩ => ⟨S4x8192, .f32⟩
  | .hbm, ⟨12, _⟩ => ⟨S4x8192, .f32⟩
  | .hbm, ⟨13, _⟩ => ⟨S4x8192x1, .f32⟩
  | .hbm, ⟨14, _⟩ => ⟨S4x8192x64, .f32⟩
  | .hbm, ⟨15, _⟩ => ⟨S4x8192x64, .f32⟩
  | .hbm, ⟨16, _⟩ => ⟨S4x8192x64, .f32⟩
  | .hbm, ⟨17, _⟩ => ⟨S_, .f32⟩
  | .hbm, ⟨18, _⟩ => ⟨S4x8192, .f32⟩
  | .hbm, ⟨19, _⟩ => ⟨S4x8192x1, .f32⟩
  | .hbm, ⟨20, _⟩ => ⟨S4x8192x64, .f32⟩
  | .hbm, ⟨21, _⟩ => ⟨S4x8192x64, .f32⟩
  | .hbm, ⟨22, _⟩ => ⟨S4x8192x64, .f32⟩
  | .hbm, ⟨23, _⟩ => ⟨S_, .f32⟩
  | .hbm, ⟨24, _⟩ => ⟨S4x8192, .f32⟩
  | .hbm, ⟨25, _⟩ => ⟨S4x8192, .f32⟩
  | .hbm, ⟨26, _⟩ => ⟨S4x8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S4x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Proof.Blocks.lean ====
/- What one grid point of the idealized kernel leaves in its three output blocks, as functions of the point's
   input blocks: the block of logits, the block of probabilities, and the running sum of squared log-sum-exps
   (started at the first point, added to at every point, scaled at the last). Hand-written, untrusted. -/
module

public import proofs.«01_k».proof.Proof.Gen.KernelIdeal.Frame
public import Idealize.ShloMosaic.Lib.Pipeline.ValueKit

@[expose] public section

set_option maxRecDepth 16384

noncomputable section

namespace Cert.Router

open Cert.KernelIdeal Cert.KernelIdeal.Gen
open Idealize.ShloMosaic Idealize.ShloMosaic.TcCoe Idealize.ShloMosaic.Tactic
open Idealize.ShloMosaic.Pipeline (Dat)

variable {F : FTy → Type} [FloatOps F] (m : (ℓ : Loc nD τ sig) → Buf (Elt F) ℓ)

/-- Every grid point is the first, the last, or neither. -/
theorem point_cases {P : Prop} (t : Fin cfg0.N) (hA : t.val % 32 = 0 → ¬t.val % 32 = 31 → P)
    (hB : ¬t.val % 32 = 0 → ¬t.val % 32 = 31 → P) (hC : ¬t.val % 32 = 0 → t.val % 32 = 31 → P) : P := by
  by_cases h0 : t.val % 32 = 0
  · exact hA h0 (by omega)
  · by_cases h1 : t.val % 32 = 31
    · exact hC h0 h1
    · exact hB h0 h1

/-- The block of logits a point leaves, whichever point it is. -/
theorem logits_at (c : Dev nD) (t : Fin cfg0.N) :
    (outsAt0 m c t.val t.isLt).1 = k0_pay4 (iblk m c 0 t) (iblk m c 1 t) (iblk m c 2 t) := by
  refine point_cases t (fun h0 h1 => ?_) (fun h0 h1 => ?_) fun h0 h1 => ?_
  · rw [outsAt0_A m c t h0 h1]; frame_out
  · rw [outsAt0_B m c t h0 h1]; frame_out
  · rw [outsAt0_C m c t h0 h1]; frame_out

/-- The block of probabilities a point leaves, whichever point it is. -/
theorem probs_at (c : Dev nD) (t : Fin cfg0.N) :
    (outsAt0 m c t.val t.isLt).2.1 = k0_pay8 (iblk m c 0 t) (iblk m c 1 t) (iblk m c 2 t) := by
  refine point_cases t (fun h0 h1 => ?_) (fun h0 h1 => ?_) fun h0 h1 => ?_
  · rw [outsAt0_A m c t h0 h1]; frame_out
  · rw [outsAt0_B m c t h0 h1]; frame_out
  · rw [outsAt0_C m c t h0 h1]; frame_out

/-- What a point adds to the running sum. -/
abbrev part (c : Dev nD) (t : Fin cfg0.N) : F .f32 :=
  k0_pay9 (iblk m c 0 t) (iblk m c 1 t) (iblk m c 2 t)

/-- A one-by-one block has one index. -/
theorem one_index (x y : S1x1.Idx) : x = y := by
  funext a
  match a with
  | 0 => exact Subsingleton.elim (α := Fin 1) _ _
  | 1 => exact Subsingleton.elim (α := Fin 1) _ _

/-- The running sum after the first point: its own part added to zero. -/
theorem zsum_first (c : Dev nD) (t : Fin cfg0.N) (h0 : t.val % 32 = 0) (h1 : ¬t.val % 32 = 31) (y : S1x1.Idx) :
    (outsAt0 m c t.val t.isLt).2.2 y = k0_pay1 (part m c t) (Scalar.ofBits .f32 0x00000000#32) := by
  rw [outsAt0_A m c t h0 h1]; frame_out

/-- The running sum after a point that is neither first nor last: the point's part added. -/
theorem zsum_middle (c : Dev nD) (t : Fin cfg0.N) (h0 : ¬t.val % 32 = 0) (h1 : ¬t.val % 32 = 31) (y : S1x1.Idx) :
    (outsAt0 m c t.val t.isLt).2.2 y
      = k0_pay1 (part m c t) ((outsAt0 m c (t.val - 1) (Nat.lt_of_le_of_lt (Nat.sub_le _ _) t.isLt)).2.2 y) := by
  rw [outsAt0_B m c t h0 h1]; frame_out
  exact congrArg (fun x => k0_pay1 (part m c t) ((outsAt0 m c (t.val - 1) _).2.2 x)) (one_index _ _)

/-- The running sum after the last point: the point's part added, then scaled. -/
theorem zsum_last (c : Dev nD) (t : Fin cfg0.N) (h0 : ¬t.val % 32 = 0) (h1 : t.val % 32 = 31) (y : S1x1.Idx) :
    (outsAt0 m c t.val t.isLt).2.2 y
      = k0_pay2 (k0_pay1 (part m c t) ((outsAt0 m c (t.val - 1) (Nat.lt_of_le_of_lt (Nat.sub_le _ _) t.isLt)).2.2 y)) := by
  rw [outsAt0_C m c t h0 h1]; frame_out
  exact congrArg (fun x => k0_pay2 (k0_pay1 (part m c t) ((outsAt0 m c (t.val - 1) _).2.2 x))) (one_index _ _)

end Cert.Router

end
-- ==== Proof.Rows.lean ====
/- The router's arithmetic on one row of logits, over the extended reals: the row's maximum, its softmax, and the two
   spellings of its log-sum-exp, whose squares agree at every row, infinities included. Hand-written, untrusted. -/
module

public import Idealize.ShloMosaic.PureOps.Ideal.Laws

@[expose] public section

noncomputable section

namespace Cert.Router

open Idealize.ShloMosaic

/-- The bit pattern of minus infinity, which a maximum starts from, denotes the least extended real. -/
theorem ofBits_neg_inf : Ideal.ofBits .f32 0xFF800000#32 = ⊥ := by
  simp [Ideal.ofBits, Ideal.ieee]

/-- The greatest entry of a row. -/
def rowMax (l : Fin 64 → EReal) : EReal := Finset.univ.fold max (Ideal.ofBits .f32 0xFF800000#32) l

/-- The exponential of an entry, the row's maximum taken off. -/
def rowExp (l : Fin 64 → EReal) (e : Fin 64) : EReal := Ideal.exp (l e - rowMax l)

/-- The softmax of a row. -/
def rowProb (l : Fin 64 → EReal) (e : Fin 64) : EReal := Ideal.div (rowExp l e) (∑ k, rowExp l k)

/-- The log-sum-exp of a row with the maximum taken off before the exponentials and added back after the logarithm. -/
def rowLse (l : Fin 64 → EReal) : EReal := rowMax l + Ideal.log (∑ k, rowExp l k)

/-- The log-sum-exp of a row as it is defined. -/
def rowLogSum (l : Fin 64 → EReal) : EReal := Ideal.log (∑ k, Ideal.exp (l k))

/-- The row's maximum is the supremum of its entries. -/
theorem rowMax_eq_sup (l : Fin 64 → EReal) : rowMax l = Finset.univ.sup l := by
  unfold rowMax
  rw [ofBits_neg_inf]
  rfl

/-- No entry exceeds the maximum. -/
theorem le_rowMax (l : Fin 64 → EReal) (e : Fin 64) : l e ≤ rowMax l := by
  rw [rowMax_eq_sup]
  exact Finset.le_sup (Finset.mem_univ e)

/-- Some entry is the maximum. -/
theorem exists_eq_rowMax (l : Fin 64 → EReal) : ∃ e, l e = rowMax l := by
  obtain ⟨e, _, h⟩ := Finset.exists_mem_eq_sup Finset.univ ⟨(0 : Fin 64), Finset.mem_univ _⟩ l
  exact ⟨e, by rw [rowMax_eq_sup, h]⟩

/-- The exponential of a real number is the real one. -/
theorem exp_coe (r : ℝ) : Ideal.exp (r : EReal) = (Real.exp r : EReal) := rfl
/-- The exponential of minus infinity is zero. -/
theorem exp_bot : Ideal.exp ⊥ = 0 := rfl
/-- The exponential of plus infinity is plus infinity. -/
theorem exp_top : Ideal.exp ⊤ = ⊤ := rfl
/-- The logarithm of plus infinity is plus infinity. -/
theorem log_top : Ideal.log ⊤ = ⊤ := rfl
/-- The logarithm of zero is minus infinity. -/
theorem log_zero : Ideal.log 0 = ⊥ := by
  show (if (0 : ℝ) ≤ 0 then (⊥ : EReal) else _) = ⊥
  rw [if_pos le_rfl]

/-- The logarithm of a positive real number is the real one. -/
theorem log_coe_pos {r : ℝ} (h : 0 < r) : Ideal.log (r : EReal) = (Real.log r : EReal) := by
  show (if r ≤ 0 then (⊥ : EReal) else _) = _
  rw [if_neg (not_le.mpr h)]

/-- An exponential is never negative. -/
theorem exp_nonneg (x : EReal) : 0 ≤ Ideal.exp x := by
  induction x with
  | bot => exact le_rfl
  | top => exact le_top
  | coe r => rw [exp_coe]; exact_mod_cast (Real.exp_pos r).le

/-- A finite sum of real numbers is the same sum among the extended reals. -/
theorem sum_coe {ι : Type} (s : Finset ι) (p : ι → ℝ) : ∑ k ∈ s, (p k : EReal) = ((∑ k ∈ s, p k : ℝ) : EReal) := by
  classical
  induction s using Finset.induction_on with
  | empty => simp
  | insert a s ha ih => rw [Finset.sum_insert ha, Finset.sum_insert ha, ih, EReal.coe_add]

/-- A row of maximum minus infinity: both forms are minus infinity. -/
theorem rowLse_bot {l : Fin 64 → EReal} (h : rowMax l = ⊥) : rowLse l = rowLogSum l := by
  have hl : ∀ e, Ideal.exp (l e) = 0 := fun e => by
    have he : l e = ⊥ := le_bot_iff.mp (h ▸ le_rowMax l e)
    rw [he, exp_bot]
  unfold rowLse rowLogSum
  rw [h, EReal.bot_add, Finset.sum_congr rfl fun e _ => hl e, Finset.sum_const_zero, log_zero]

/-- A row with an infinite entry: one form is minus infinity, the other plus infinity. -/
theorem rowLse_top {l : Fin 64 → EReal} (h : rowMax l = ⊤) : rowLse l = ⊥ ∧ rowLogSum l = ⊤ := by
  constructor
  · have hl : ∀ e, rowExp l e = 0 := fun e => by
      unfold rowExp
      rw [h, sub_eq_add_neg, EReal.neg_top, EReal.add_bot, exp_bot]
    unfold rowLse
    rw [Finset.sum_congr rfl fun e _ => hl e, Finset.sum_const_zero, log_zero, EReal.add_bot]
  · obtain ⟨e, he⟩ := exists_eq_rowMax l
    have hs : (∑ k, Ideal.exp (l k)) = ⊤ := by
      refine top_le_iff.mp ?_
      calc (⊤ : EReal) = Ideal.exp (l e) := by rw [he, h, exp_top]
        _ ≤ ∑ k, Ideal.exp (l k) :=
          Finset.single_le_sum (f := fun k => Ideal.exp (l k)) (fun k _ => exp_nonneg _) (Finset.mem_univ e)
    unfold rowLogSum
    rw [hs, log_top]

/-- A row whose maximum is a real number: the two forms are the same real number. -/
theorem rowLse_real {l : Fin 64 → EReal} {r : ℝ} (h : rowMax l = r) : rowLse l = rowLogSum l := by
  obtain ⟨p, hp0, hp, hq⟩ : ∃ p : Fin 64 → ℝ, (∀ e, 0 ≤ p e) ∧ (∀ e, Ideal.exp (l e) = p e)
      ∧ ∀ e, rowExp l e = ((p e * Real.exp (-r) : ℝ) : EReal) := by
    refine ⟨fun e => (Ideal.exp (l e)).toReal, fun e => EReal.toReal_nonneg (exp_nonneg _), fun e => ?_, fun e => ?_⟩
    · have hle : l e ≤ (r : EReal) := h ▸ le_rowMax l e
      beta_reduce
      cases hx : l e with
      | bot => rw [exp_bot, EReal.toReal_zero, EReal.coe_zero]
      | top => exact absurd (top_le_iff.mp (hx ▸ hle)) (EReal.coe_ne_top r)
      | coe a => rw [exp_coe, EReal.toReal_coe]
    · have hle : l e ≤ (r : EReal) := h ▸ le_rowMax l e
      unfold rowExp
      rw [h]
      beta_reduce
      cases hx : l e with
      | bot => rw [sub_eq_add_neg, EReal.bot_add, exp_bot, EReal.toReal_zero, zero_mul, EReal.coe_zero]
      | top => exact absurd (top_le_iff.mp (hx ▸ hle)) (EReal.coe_ne_top r)
      | coe a => rw [exp_coe, EReal.toReal_coe, ← EReal.coe_sub, exp_coe, sub_eq_add_neg, Real.exp_add]
  have hpos : 0 < ∑ e, p e := by
    obtain ⟨e, he⟩ := exists_eq_rowMax l
    have hpe : p e = Real.exp r := by
      have := hp e
      rw [he, h, exp_coe] at this
      exact_mod_cast this.symm
    exact lt_of_lt_of_le (hpe ▸ Real.exp_pos r) (Finset.single_le_sum (fun k _ => hp0 k) (Finset.mem_univ e))
  unfold rowLse rowLogSum
  rw [h, Finset.sum_congr rfl fun e _ => hq e, Finset.sum_congr rfl fun e _ => hp e, sum_coe, sum_coe,
    ← Finset.sum_mul, log_coe_pos hpos, log_coe_pos (mul_pos hpos (Real.exp_pos _)),
    Real.log_mul hpos.ne' (Real.exp_pos _).ne', Real.log_exp, ← EReal.coe_add]
  congr 1
  ring

/-- The squares of the two forms of the log-sum-exp agree at every row of extended reals. -/
theorem rowLse_sq (l : Fin 64 → EReal) : rowLse l * rowLse l = rowLogSum l * rowLogSum l := by
  cases h : rowMax l with
  | bot => rw [rowLse_bot h]
  | top =>
    obtain ⟨h1, h2⟩ := rowLse_top h
    rw [h1, h2, EReal.bot_mul_bot, EReal.top_mul_top]
  | coe r => rw [rowLse_real h]

end Cert.Router

end
-- ==== Proof.Payloads.lean ====
/- What the idealized kernel's body stores, read at an index over the extended reals: one column of a block is one
   token's row of logits. Hand-written, untrusted. -/
module

public import proofs.«01_k».proof.Proof.Rows
public import proofs.«01_k».proof.Proof.Gen.KernelIdeal.Skeleton
public import Idealize.ShloMosaic.Lib.Pointwise

@[expose] public section

set_option maxRecDepth 16384

noncomputable section

namespace Cert.Router

open Cert.KernelIdeal Cert.KernelIdeal.Gen
open Idealize.ShloMosaic Idealize.ShloMosaic.TcCoe

variable (x : Vec Ideal S1x1024x4096 .f32) (w : Vec Ideal S64x4096 .f32) (b : Vec Ideal S1x64 .f32)

/-- Column `l` of the block of logits the body computes: the row of the block's token `l`. -/
def blockRow (l : Fin 1024) : Fin 64 → EReal := fun e => k0_pay3 x w b (ix2 e l)

/-- An entry of that row: the token's product with the weights, the bias added. -/
theorem blockRow_apply (l : Fin 1024) (e : Fin 64) :
    blockRow x w b l e = (∑ k : Fin 4096, x (ix3 0 l k) * w (ix2 e k)) + b (ix2 0 e) := by
  unfold blockRow
  pointwise [k0_pay3]
  simp only [mul_comm]

/-- The stored block of logits. -/
theorem pay_logits (y : S1x64x1024.Idx) : k0_pay4 x w b y = blockRow x w b (y 2) (y 1) := by
  pointwise [k0_pay4]
  rfl

/-- The row of maxima. -/
theorem pay_max (l : Fin 1024) : k0_pay5 x w b (ix2 0 l) = rowMax (blockRow x w b l) := by
  pointwise [k0_pay5]
  rfl

/-- The exponentials, the maximum taken off. -/
theorem pay_exp (e : Fin 64) (l : Fin 1024) : k0_pay6 x w b (ix2 e l) = rowExp (blockRow x w b l) e := by
  pointwise [k0_pay6]
  rw [pay_max]
  rfl

/-- The row of their sums. -/
theorem pay_sum (l : Fin 1024) : k0_pay7 x w b (ix2 0 l) = ∑ e, rowExp (blockRow x w b l) e := by
  pointwise [k0_pay7]
  exact Finset.sum_congr rfl fun e _ => pay_exp x w b e l

/-- The stored block of probabilities. -/
theorem pay_probs (y : S1x64x1024.Idx) : k0_pay8 x w b y = rowProb (blockRow x w b (y 2)) (y 1) := by
  pointwise [k0_pay8]
  exact congrArg₂ Ideal.div (pay_exp x w b (y 1) (y 2)) (pay_sum x w b (y 2))

/-- What the block adds to the running sum: the squares of its tokens' log-sum-exps. -/
theorem pay_part : k0_pay9 x w b = ∑ l, rowLogSum (blockRow x w b l) * rowLogSum (blockRow x w b l) := by
  have h : ∀ l : Fin 1024, k0_pay5 x w b (ix2 0 l) + Ideal.log (k0_pay7 x w b (ix2 0 l)) = rowLse (blockRow x w b l) :=
    fun l => by rw [pay_max, pay_sum]; rfl
  pointwise [k0_pay9]
  exact (Fin.sum_univ_one _).trans (Finset.sum_congr (M := EReal) rfl fun l _ =>
    (congrArg₂ (· * ·) (h l) (h l)).trans (rowLse_sq _))

end Cert.Router

end
-- ==== Proof.Spec.lean ====
/- The router's three results as functions of its arguments, over the extended reals, and the reference's operations
   read as those functions. Hand-written, untrusted. -/
module

public import proofs.«01_k».proof.Proof.Rows
public import proofs.«01_k».proof.Proof.Gen.ReferenceIdeal.Run
public import Idealize.ShloMosaic.Lib.Pointwise

@[expose] public section

set_option maxRecDepth 16384

noncomputable section

namespace Cert.Router

open Cert.ReferenceIdeal Cert.ReferenceIdeal.Gen
open Idealize.ShloMosaic Idealize.ShloMosaic.TcCoe

/-- The logits: each token's product with the weights, the bias added. -/
def logits (X : FVec Ideal S4x8192x4096 .f32) (W : FVec Ideal S4096x64 .f32) (B : FVec Ideal S64 .f32) :
    FVec Ideal S4x8192x64 .f32 :=
  fun y => (∑ k : Fin 4096, X (ix3 (y 0) (y 1) k) * W (ix2 k (y 2))) + B (ix1 (y 2))

/-- One token's row of an array of logits. -/
def row (L : FVec Ideal S4x8192x64 .f32) (g : Fin 4) (s : Fin 8192) : Fin 64 → EReal := fun e => L (ix3 g s e)

/-- The probabilities: the softmax of each token's row. -/
def probs (L : FVec Ideal S4x8192x64 .f32) : FVec Ideal S4x8192x64 .f32 :=
  fun y => rowProb (row L (y 0) (y 1)) (y 2)

/-- The sum over all tokens of the squared log-sum-exp. -/
def zTotal (L : FVec Ideal S4x8192x64 .f32) : EReal :=
  ∑ g : Fin 4, ∑ s : Fin 8192, rowLogSum (row L g s) * rowLogSum (row L g s)

/-- The z-loss: that sum divided by the number of tokens. -/
def zLoss (L : FVec Ideal S4x8192x64 .f32) : FVec Ideal S_ .f32 :=
  fun _ => Ideal.div (zTotal L) (Ideal.ofBits .f32 0x47000000#32)

/-- The reference's contraction with its broadcast bias is the array of logits. -/
theorem reference_logits (X : FVec Ideal S4x8192x4096 .f32) (W : FVec Ideal S4096x64 .f32) (B : FVec Ideal S64 .f32) :
    addf (Host.dotGeneral dot_S4x8192x4096_S4096x64_S4x8192x64_2_0_01_1_n_n none X W)
      (broadcastInDim S4x8192x64 ![0, 1, 2] bcast_S1x1x64_S4x8192x64_0_1_2 (broadcastInDim S1x1x64 ![2] bcast_S64_S1x1x64_2 B))
      = logits X W B := by
  funext y
  pointwise [logits]

/-- Minus infinity, broadcast to every token. -/
theorem reference_start (y : S4x8192.Idx) :
    (broadcastInDim S4x8192 ![] bcast_S_S4x8192 (constant (F := Ideal) S_ .f32 0xFF800000#32)) y = ⊥ := by
  pointwise
  exact ofBits_neg_inf

/-- The reference's reduction of a token's logits by the maximum. -/
theorem reference_reduce (L : FVec Ideal S4x8192x64 .f32) (y : S4x8192.Idx) :
    Host.reduce FloatOps.maximumf L (constant S_ .f32 0xFF800000#32) reducesTo_S4x8192x64_S4x8192_d2 h_S_ y
      = rowMax (row L (y 0) (y 1)) := by
  pointwise
  rfl

/-- The elementwise maximum with an array that is minus infinity everywhere changes nothing. -/
theorem maximumf_of_bot {A R : FVec Ideal S4x8192 .f32} {r : S4x8192.Idx → EReal} (hA : ∀ y, A y = ⊥)
    (hR : ∀ y, R y = r y) : maximumf A R = r := by
  funext y
  show max (A y) (R y) = r y
  rw [hA, hR, max_bot_left]

/-- The maximum the reference takes off a token's logits: its reduction, compared once more with minus infinity. -/
theorem reference_max (L : FVec Ideal S4x8192x64 .f32) :
    maximumf (F := Ideal) (s := S4x8192) (φ := .f32) (broadcastInDim S4x8192 ![] bcast_S_S4x8192 (constant S_ .f32 0xFF800000#32))
      (Host.reduce FloatOps.maximumf L (constant S_ .f32 0xFF800000#32) reducesTo_S4x8192x64_S4x8192_d2 h_S_)
      = fun y => rowMax (row L (y 0) (y 1)) :=
  maximumf_of_bot reference_start (reference_reduce L)

/-- The reference's softmax of the logits, the maximum given. -/
theorem reference_softmax (L : FVec Ideal S4x8192x64 .f32) (E : FVec Ideal S4x8192x64 .f32)
    (hE : E = Host.exp (subf L (broadcastInDim S4x8192x64 ![0, 1, 2] bcast_S4x8192x1_S4x8192x64_0_1_2
      (broadcastInDim S4x8192x1 ![0, 1] bcast_S4x8192_S4x8192x1_0_1 fun y : S4x8192.Idx => rowMax (row L (y 0) (y 1)))))) :
    Host.divf E (broadcastInDim S4x8192x64 ![0, 1, 2] bcast_S4x8192x1_S4x8192x64_0_1_2
      (broadcastInDim S4x8192x1 ![0, 1] bcast_S4x8192_S4x8192x1_0_1
        (Host.reduceAdd E (constant S_ .f32 0x00000000#32) reducesTo_S4x8192x64_S4x8192_d2 h_S_))) = probs L := by
  have hrow : ∀ y, E y = rowExp (row L (y 0) (y 1)) (y 2) := fun y => by
    rw [hE]
    pointwise
    unfold rowExp
    congr 2
    exact congrArg L (eq_ix3 y)
  funext y
  pointwise
  unfold probs rowProb
  simp only [hrow]
  rfl

/-- The reference's z-loss of the logits. -/
theorem reference_zLoss (L : FVec Ideal S4x8192x64 .f32) :
    Host.divf (Host.reduceAdd (mulf
        (Host.log (Host.reduceAdd (Host.exp L) (constant S_ .f32 0x00000000#32) reducesTo_S4x8192x64_S4x8192_d2 h_S_))
        (Host.log (Host.reduceAdd (Host.exp L) (constant S_ .f32 0x00000000#32) reducesTo_S4x8192x64_S4x8192_d2 h_S_)))
      (constant S_ .f32 0x00000000#32) reducesTo_S4x8192_S_d0_1 h_S_) (constant S_ .f32 0x47000000#32) = zLoss L := by
  funext y
  pointwise
  rfl

end Cert.Router

end
-- ==== Proof.Arrays.lean ====
/- The idealized kernel's output arrays after its region, as functions of its arguments: each grid point's input blocks
   are read back to the arguments, and what the points leave is put together into the arrays. Hand-written, untrusted. -/
module

public import proofs.«01_k».proof.Proof.Blocks
public import proofs.«01_k».proof.Proof.Payloads
public import proofs.«01_k».proof.Proof.Spec

@[expose] public section

set_option maxRecDepth 16384

noncomputable section

namespace Cert.Router

open Cert.KernelIdeal Cert.KernelIdeal.Gen
open Idealize.ShloMosaic Idealize.ShloMosaic.TcCoe Idealize.ShloMosaic.Tactic
open Idealize.ShloMosaic.Pipeline (Dat)

variable (m : (ℓ : Loc nD τ sig) → Buf (Elt Ideal) ℓ)

/-- The logits of the program's arguments. -/
abbrev argLogits (c : Dev nD) : FVec Ideal S4x8192x64 .f32 :=
  logits (m ((c.tc : Thread nD τ).loc main_arg0)) (m ((c.tc : Thread nD τ).loc main_arg1)) (m ((c.tc : Thread nD τ).loc main_arg2))

/-- The group of the tokens of a point's block. -/
def group (t : Fin cfg0.N) : Fin 4 := ⟨t.val / 8, by have h : t.val < 32 := lt_of_lt_of_eq t.isLt (show cfg0.N = 32 from N_0); omega⟩

/-- The place in its group of a block's token. -/
def token (t : Fin cfg0.N) (l : Fin 1024) : Fin 8192 := ⟨t.val % 8 * 1024 + l.val, by omega⟩

/-- Where each window's block lies at a point. -/
theorem idx (t : Fin cfg0.N) : win0_0.index t = ![t.val / 8, t.val % 8, 0] ∧ win0_1.index t = ![0, 0]
    ∧ win0_2.index t = ![0, 0] ∧ win0_3.index t = ![t.val / 8, 0, t.val % 8]
    ∧ win0_4.index t = ![t.val / 8, 0, t.val % 8] ∧ win0_5.index t = ![0, 0] :=
  (by decide +kernel : ∀ t : Fin grid0.N, win0_0.index t = ![t.val / 8, t.val % 8, 0] ∧ win0_1.index t = ![0, 0]
    ∧ win0_2.index t = ![0, 0] ∧ win0_3.index t = ![t.val / 8, 0, t.val % 8]
    ∧ win0_4.index t = ![t.val / 8, 0, t.val % 8] ∧ win0_5.index t = ![0, 0]) t

/-- An entry of a point's block of inputs. -/
theorem block_x (c : Dev nD) (t : Fin cfg0.N) (l : Fin 1024) (k : Fin 4096) :
    (iblk m c 0 t : S1x1024x4096.Idx → EReal) (ix3 0 l k)
      = (m ((c.tc : Thread nD τ).loc main_arg0) : S4x8192x4096.Idx → EReal) (ix3 (group t) (token t l) k) := by
  unfold group token
  blk_ext [iblk, V, idx t]

/-- The kernel's weights are the argument's, transposed. -/
theorem V_weights (c : Dev nD) (e : Fin 64) (k : Fin 4096) :
    (V m c main_v0 : S64x4096.Idx → EReal) (ix2 e k)
      = (m ((c.tc : Thread nD τ).loc main_arg1) : S4096x64.Idx → EReal) (ix2 k e) := by
  change StableHlo.after hostOps0 (fun b => m (c, b)) (Proc.devRef .tc main_v0) (ix2 e k) = _
  entry_read
  pointwise

/-- The kernel's bias is the argument's, laid out as a row. -/
theorem V_bias (c : Dev nD) (e : Fin 64) :
    (V m c main_v1 : S1x64.Idx → EReal) (ix2 0 e)
      = (m ((c.tc : Thread nD τ).loc main_arg2) : S64.Idx → EReal) (ix1 e) := by
  change StableHlo.after hostOps0 (fun b => m (c, b)) (Proc.devRef .tc main_v1) (ix2 0 e) = _
  entry_read
  pointwise

/-- An entry of a point's block of weights, which is all of them. -/
theorem block_w (c : Dev nD) (t : Fin cfg0.N) (e : Fin 64) (k : Fin 4096) :
    (iblk m c 1 t : S64x4096.Idx → EReal) (ix2 e k)
      = (m ((c.tc : Thread nD τ).loc main_arg1) : S4096x64.Idx → EReal) (ix2 k e) := by
  refine Eq.trans ?_ (V_weights m c e k)
  blk_ext [iblk, idx t]

/-- An entry of a point's block of the bias, which is all of it. -/
theorem block_b (c : Dev nD) (t : Fin cfg0.N) (e : Fin 64) :
    (iblk m c 2 t : S1x64.Idx → EReal) (ix2 0 e)
      = (m ((c.tc : Thread nD τ).loc main_arg2) : S64.Idx → EReal) (ix1 e) := by
  refine Eq.trans ?_ (V_bias m c e)
  blk_ext [iblk, idx t]

/-- A block's row of logits is the row of the arguments' logits at its token. -/
theorem blockRow_eq (c : Dev nD) (t : Fin cfg0.N) (l : Fin 1024) :
    blockRow (iblk m c 0 t) (iblk m c 1 t) (iblk m c 2 t) l = row (argLogits m c) (group t) (token t l) := by
  funext e
  rw [blockRow_apply]
  simp only [block_x, block_w, block_b]
  pointwise [row, argLogits, logits]

/-- A row of the point's block of logits. -/
theorem logits_block (c : Dev nD) (t : Fin cfg0.N) (e : Fin 64) (l : Fin 1024) :
    (outsAt0 m c t.val t.isLt).1 (ix3 0 e l) = argLogits m c (ix3 (group t) (token t l) e) := by
  rw [logits_at]
  exact (pay_logits _ _ _ (ix3 0 e l)).trans (congrFun (blockRow_eq m c t l) e)

/-- A row of the point's block of probabilities. -/
theorem probs_block (c : Dev nD) (t : Fin cfg0.N) (e : Fin 64) (l : Fin 1024) :
    (outsAt0 m c t.val t.isLt).2.1 (ix3 0 e l) = probs (argLogits m c) (ix3 (group t) (token t l) e) := by
  rw [probs_at]
  exact (pay_probs _ _ _ (ix3 0 e l)).trans (congrArg (fun r => rowProb r e) (blockRow_eq m c t l))

/-- What the logits array holds after the region: the logits, the tokens along the last axis. -/
theorem logits_array (c : Dev nD) :
    (dats m 0 c).arrAt 3 cfg0.N = fun y : S4x64x8192.Idx => argLogits m c (ix3 (y 0) (y 2) (y 1)) := by
  refine (dats m 0 c).arrAt_eq_of_covers 3 _ (by decide +kernel) fun t hf y => ?_
  blk_simp
  rw [after0_3]
  idx_vars y
  obtain rfl : y0 = 0 := Subsingleton.elim _ _
  refine (logits_block m c t _ _).trans ?_
  unfold group token
  blk_ext [idx t]

/-- What the probabilities array holds after the region: the probabilities, the tokens along the last axis. -/
theorem probs_array (c : Dev nD) :
    (dats m 0 c).arrAt 4 cfg0.N = fun y : S4x64x8192.Idx => probs (argLogits m c) (ix3 (y 0) (y 2) (y 1)) := by
  refine (dats m 0 c).arrAt_eq_of_covers 4 _ (by decide +kernel) fun t hf y => ?_
  blk_simp
  rw [after0_4]
  idx_vars y
  obtain rfl : y0 = 0 := Subsingleton.elim _ _
  refine (probs_block m c t _ _).trans ?_
  unfold group token
  blk_ext [idx t]

/-- The literal zero is zero. -/
theorem ofBits_zero : Scalar.ofBits (F := Ideal) .f32 0x00000000#32 = (0 : EReal) := by
  pointwise

/-- Adding a part to the running sum is an addition. -/
theorem pay_add (a b : EReal) : k0_pay1 (F := Ideal) a b = b + a := rfl

/-- Scaling the running sum is a product. -/
theorem pay_scale (a : EReal) : k0_pay2 (F := Ideal) a = a * Ideal.ofBits .f32 0x38000000#32 := rfl

/-- The running sum after each point before it is scaled. -/
def running (c : Dev nD) (n : ℕ) (hn : n < cfg0.N) (y : S1x1.Idx) : EReal :=
  if n % 32 = 31 then
    k0_pay1 (part m c ⟨n, hn⟩) ((outsAt0 m c (n - 1) (Nat.lt_of_le_of_lt (Nat.sub_le _ _) hn)).2.2 y)
  else (outsAt0 m c n hn).2.2 y

/-- The first point's running sum is its own part. -/
theorem running_first (c : Dev nD) (t : Fin cfg0.N) (h0 : t.val % 32 = 0) (y : S1x1.Idx) :
    running m c t.val t.isLt y = 0 + part m c t := by
  have h1 : ¬t.val % 32 = 31 := by omega
  rw [running, if_neg h1, zsum_first m c t h0 h1, pay_add]
  exact congrArg (· + part m c t) ofBits_zero

/-- Every later point adds its part to the running sum of the point before. -/
theorem running_step (c : Dev nD) (t : Fin cfg0.N) (h0 : ¬t.val % 32 = 0) (y : S1x1.Idx) :
    running m c t.val t.isLt y
      = running m c (t.val - 1) (Nat.lt_of_le_of_lt (Nat.sub_le _ _) t.isLt) y + part m c t := by
  have hN : t.val < 32 := lt_of_lt_of_eq t.isLt (show cfg0.N = 32 from N_0)
  have hp : ¬(t.val - 1) % 32 = 31 := by omega
  rw [running, running, if_neg hp]
  by_cases h1 : t.val % 32 = 31
  · rw [if_pos h1, pay_add]
  · rw [if_neg h1, zsum_middle m c t h0 h1, pay_add]

/-- The last point. -/
def lastPoint : Fin cfg0.N := ⟨31, lt_of_lt_of_eq (by decide) N_0.symm⟩

/-- The running sum of the last point is the sum over all tokens. -/
theorem running_last (c : Dev nD) (t : Fin cfg0.N) (ht : t.val + 1 = cfg0.N) (y : S1x1.Idx) :
    running m c t.val t.isLt y = zTotal (argLogits m c) := by
  have h := Pipeline.eq_sum_fin_of_reset_step_apply_last (running m c) 32 (fun _ => 0) (fun t _ => part m c t)
    (running_first m c) (running_step m c) (le_of_eq N_0) t ht y
  rw [h, zero_add]
  unfold zTotal
  simp only [part, pay_part, blockRow_eq]
  exact Fin.sum_points_lanes_fin 8 (fun g s => rowLogSum (row (argLogits m c) g s) * rowLogSum (row (argLogits m c) g s)) (hN := N_0)

/-- Scaling by `2⁻¹⁵` is dividing by the number of tokens. -/
theorem scale_eq (x : EReal) :
    x * Ideal.ofBits .f32 0x38000000#32 = Ideal.div x (Ideal.ofBits .f32 0x47000000#32) := by
  have h1 : Ideal.ofBits .f32 0x38000000#32 = ((1 / 32768 : ℝ) : EReal) := by
    simp [Ideal.ofBits, Ideal.ieee, -EReal.coe_mul]; norm_num
  have h2 : Ideal.ofBits .f32 0x47000000#32 = ((32768 : ℝ) : EReal) := by
    simp [Ideal.ofBits, Ideal.ieee, -EReal.coe_mul]; norm_num
  rw [h1, h2, Ideal.div_coe (by norm_num)]

/-- What the last point leaves: the sum over all tokens, divided by their number. -/
theorem zsum_block (c : Dev nD) (t : Fin cfg0.N) (h1 : t.val % 32 = 31) (y : S1x1.Idx) (i : S_.Idx) :
    (outsAt0 m c t.val t.isLt).2.2 y = zLoss (argLogits m c) i := by
  have hN : t.val < 32 := lt_of_lt_of_eq t.isLt (show cfg0.N = 32 from N_0)
  have ht : t.val + 1 = cfg0.N := (by omega : t.val + 1 = 32).trans N_0.symm
  have hr := running_last m c t ht y
  rw [running, if_pos h1] at hr
  rw [zsum_last m c t (by omega) h1, hr, pay_scale]
  exact scale_eq _

/-- The last point writes the one-by-one array back, all of it. -/
theorem covered_5 (i : S1x1.Idx) :
    ∃ t : Fin cfg0.N, (cfg0.win 5).flush t = true ∧ i ∈ ((cfg0.win 5).blk t).view.set :=
  ⟨lastPoint, (flush0_5 lastPoint).mpr rfl, by
    rw [one_index i (((cfg0.win 5).blk lastPoint).view.emb (ix2 0 0))]
    exact View.emb_mem_set _ _⟩

/-- What the one-by-one array holds after the region: the z-loss. -/
theorem zsum_array (c : Dev nD) (i : S_.Idx) :
    (dats m 0 c).arrAt 5 cfg0.N = fun _ : S1x1.Idx => zLoss (argLogits m c) i := by
  refine (dats m 0 c).arrAt_eq_of_emb 5 _ (fun t hf y => ?_) covered_5
  blk_simp
  rw [after0_5]
  exact zsum_block m c t ((flush0_5 t).mp hf) y i

end Cert.Router

end
-- ==== Proof.KernelRun.lean ====
/- The idealized kernel's run: its results after the host line that follows the region. Hand-written, untrusted. -/
module

public import proofs.«01_k».proof.Proof.Arrays

@[expose] public section

set_option maxRecDepth 16384

noncomputable section

namespace Cert.Router

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ)

/-- The buffers when the region has ended: the six arrays as the points leave them, the rest as they were. -/
abbrev exit (c : Dev nD) : Valuation τ sig (Elt Ideal) :=
  Pipeline.withArrays spec0 c (V0 m c) fun w => (dats m 0 c).arrAt w cfg0.N

/-- The region's arrays, read off that. -/
theorem exit_arr (c : Dev nD) (w : Fin cfg0.W) :
    exit m c (Proc.devRef .tc (Pipeline.arrRef spec0 w)) = (dats m 0 c).arrAt w cfg0.N :=
  Pipeline.withArrays_arr spec0 launch0.win.arr_inj c _ _ w

/-- The probabilities the host line returns. -/
theorem tail_probs (c : Dev nD) :
    Pipeline.afterTail₀ cfgs (dats m) 0 (V0 m) [hostOps1] c main_v4 = probs (argLogits m c) := by
  have h : exit m c (Proc.devRef .tc main_v2_1) = fun y : S4x64x8192.Idx => probs (argLogits m c) (ix3 (y 0) (y 2) (y 1)) :=
    (exit_arr m c 4).trans (probs_array m c)
  change StableHlo.after hostOps1 (exit m c) (Proc.devRef .tc main_v4) = _
  after_results
  rw [h]
  funext y
  pointwise

/-- The logits the host line returns. -/
theorem tail_logits (c : Dev nD) :
    Pipeline.afterTail₀ cfgs (dats m) 0 (V0 m) [hostOps1] c main_v5 = argLogits m c := by
  have h : exit m c (Proc.devRef .tc main_v2_0) = fun y : S4x64x8192.Idx => argLogits m c (ix3 (y 0) (y 2) (y 1)) :=
    (exit_arr m c 3).trans (logits_array m c)
  change StableHlo.after hostOps1 (exit m c) (Proc.devRef .tc main_v5) = _
  after_results
  rw [h]
  funext y
  pointwise

/-- The z-loss the host line returns. -/
theorem tail_zLoss (c : Dev nD) :
    Pipeline.afterTail₀ cfgs (dats m) 0 (V0 m) [hostOps1] c main_v3 = zLoss (argLogits m c) := by
  funext i
  have h : exit m c (Proc.devRef .tc main_v2_2) = fun _ : S1x1.Idx => zLoss (argLogits m c) i :=
    (exit_arr m c 5).trans (zsum_array m c i)
  change StableHlo.after hostOps1 (exit m c) (Proc.devRef .tc main_v3) i = _
  after_results
  rw [h]
  rfl

/-- The idealized kernel ends with the probabilities, the logits and the z-loss of its arguments, and leaves the
    arguments as they were. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v4) = probs (argLogits m c)
      ∧ r.2.mem ((c.tc : Thread nD τ).loc main_v5) = argLogits m c
      ∧ r.2.mem ((c.tc : Thread nD τ).loc main_v3) = zLoss (argLogits m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  run_from run_main m ρ
  · exact tail_probs m c
  · exact tail_logits m c
  · exact tail_zLoss m c
  · exact W_main_arg1 m (dats m) c
  · exact W_main_arg2 m (dats m) c
  · exact W_main_arg3 m (dats m) c

end Cert.Router

end
-- ==== Proof.ReferenceRun.lean ====
/- The idealized reference's run: its results are the probabilities, the logits and the z-loss of its arguments.
   Hand-written, untrusted. -/
module

public import proofs.«01_k».proof.Proof.Spec
public import proofs.«01_k».proof.Proof.Gen.ReferenceIdeal.Run
public import Idealize.ShloMosaic.Lib.Claim

@[expose] public section

set_option maxRecDepth 16384

noncomputable section

namespace Cert.Router

open Cert.ReferenceIdeal Cert.ReferenceIdeal.Gen
open Idealize.ShloMosaic Idealize.ShloMosaic.TcCoe Idealize.ShloMosaic.Tactic Idealize.SL.Sem

variable (m : (ℓ : Loc nD τ sig) → Buf (Elt Ideal) ℓ)

/-- The logits of the reference's arguments. -/
abbrev refLogits (c : Dev nD) : FVec Ideal S4x8192x64 .f32 :=
  logits (m ((c.tc : Thread nD τ).loc main_arg0)) (m ((c.tc : Thread nD τ).loc main_arg1)) (m ((c.tc : Thread nD τ).loc main_arg2))

/-- The reference ends with the probabilities, the logits and the z-loss of its arguments, and leaves the arguments as
    they were. -/
theorem reference_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = probs (refLogits m c)
      ∧ r.2.mem ((c.tc : Thread nD τ).loc main_v3) = refLogits m c
      ∧ r.2.mem ((c.tc : Thread nD τ).loc main_v20) = zLoss (refLogits m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine θ_run_mono (Cert.ReferenceIdeal.Value.run (F := Ideal) m ρ) fun r h c => ?_
  obtain ⟨hp, hl, hz, hargs⟩ := h c
  have e := reference_logits (m ((c.tc : Thread nD τ).loc main_arg0)) (m ((c.tc : Thread nD τ).loc main_arg1))
    (m ((c.tc : Thread nD τ).loc main_arg2))
  rw [e] at hp hl hz
  refine ⟨hp.trans ?_, hl, hz.trans (reference_zLoss _), hargs⟩
  rw [reference_max]
  exact reference_softmax _ _ rfl

end Cert.Router

end
-- ==== Proof.lean ====
/- The proof of the certificate's claim: the three programs' frames, the idealization's fidelity, and the equality of the
   idealized kernel's three results with the idealized reference's. Hand-written, untrusted. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.ReferenceRun
public import Idealize.ShloMosaic.Adequacy
public import Idealize.ShloMosaic.Init

@[expose] public section

noncomputable section

namespace Cert.Proof

open Idealize.ShloMosaic Idealize.SL.Sem Cert.Kernel

/-- The reference terminates, leaves its arguments as they were, and has no semaphore to leave raised. -/
theorem frame_reference : Cert.quiescent_ReferenceIdeal := fun m ρ _ =>
  θ_run_mono (Cert.ReferenceIdeal.Value.run (F := Ideal) m ρ) fun r h =>
    And.intro (fun c => (h c).2.2.2) (sem_eq_zero_of_no_sems (by decide) r.2)

/-- From equal arguments the idealized kernel and the idealized reference end with equal probabilities, logits and
    z-loss: both are the same functions of the arguments. -/
theorem same_results : Cert.algebraic_KernelIdeal_ReferenceIdeal := fun m ρ m' ρ' _ hagree =>
  ⟨fun c => Router.probs (Router.argLogits m c), fun c => Router.argLogits m c,
    fun c => Router.zLoss (Router.argLogits m c), Router.kernel_run m ρ,
    θ_run_mono (Router.reference_run m' ρ') fun r h c => by
      have e : Router.refLogits m' c = Router.argLogits m c := by
        unfold Router.refLogits Router.argLogits
        rw [(hagree c).1, (hagree c).2.1, (hagree c).2.2.1]
      obtain ⟨hp, hl, hz, hargs⟩ := h c
      rw [e] at hp hl hz
      exact ⟨hp, hl, hz, hargs⟩⟩

/-- Everything the certificate claims: each program terminates and leaves its arguments as they were, the idealized
    kernel is the kernel's own text, and its results are the reference's. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial,
  same_results⟩

end Cert.Proof

end
